-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩
abbrev S32768x64 : Shape := ⟨2, ![32768, 64]⟩
abbrev S1024x4096 : Shape := ⟨2, ![1024, 4096]⟩
abbrev S1024x64 : Shape := ⟨2, ![1024, 64]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S1x64, .f32⟩
  | .hbm, ⟨5, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Router.lean ====
/-
  The function that both programs compute, stated over the extended reals and without either program: a token's
  logits are the inner products of its row with the experts' rows, plus the bias, and its routing weights are the softmax
  of its logits, taken with the row's greatest logit subtracted.
-/
module

public import Idealize.ShloMosaic.Lib.Pointwise
public import Idealize.ShloMosaic.PureOps.Ideal

@[expose] public section

noncomputable section

namespace Cert.Router

open Idealize.ShloMosaic

/-- The logit of expert `e` for one token, from the token's row, the experts' weights and the bias. -/
def logit (row : Fin 4096 → EReal) (weight : Fin 64 → Fin 4096 → EReal) (bias : Fin 64 → EReal) (e : Fin 64) : EReal :=
  ∑ k, row k * weight e k + bias e

/-- The softmax of 64 logits at `e`: the exponential of the distance to the greatest logit, over the sum of them all. -/
def softmax (l : Fin 64 → EReal) (e : Fin 64) : EReal :=
  Ideal.div (Ideal.exp (l e - Finset.univ.sup l)) (∑ e', Ideal.exp (l e' - Finset.univ.sup l))

/-- The routing weights of every token, from the three argument arrays. -/
def weights (X : (⟨2, ![32768, 4096]⟩ : Shape).Idx → EReal) (W : (⟨2, ![64, 4096]⟩ : Shape).Idx → EReal)
    (B : (⟨1, ![64]⟩ : Shape).Idx → EReal) : (⟨2, ![32768, 64]⟩ : Shape).Idx → EReal :=
  fun i => softmax (logit (fun k => X (ix2 (i 0) k)) (fun e k => W (ix2 e k)) fun e => B (ix1 e)) (i 1)

/-- The word that both programs start a maximum from is −∞. -/
theorem ofBits_neg_inf : Ideal.ofBits .f32 0xFF800000#32 = ⊥ := by
  simp [Ideal.ofBits, Ideal.ieee]

/-- A fold of `max` from −∞ is the greatest value. -/
theorem fold_max (l : Fin 64 → EReal) :
    Finset.univ.fold max (Ideal.ofBits .f32 0xFF800000#32) l = Finset.univ.sup l := by
  rw [ofBits_neg_inf]; rfl

end Cert.Router

end
-- ==== Proof.Block.lean ====
/-
  What the kernel's body computes of one block of 1024 tokens: each row's softmax of its logits.
-/
module

public import proofs.«01_k».proof.Proof.Router
public import proofs.«01_k».proof.Proof.Gen.KernelIdeal.Skeleton

@[expose] public section

set_option maxRecDepth 16384

noncomputable section

namespace Cert.Router

open Idealize.ShloMosaic Cert.KernelIdeal

/-- The stored block at row `r` and expert `e`, from the three loaded blocks (the weights arrive transposed, the bias
    as one row): the softmax of the row's logits. -/
theorem body_apply (x : Vec Ideal S1024x4096 .f32) (w : Vec Ideal S4096x64 .f32) (b : Vec Ideal S1x64 .f32)
    (r : Fin 1024) (e : Fin 64) :
    Gen.k0_pay1 (F := Ideal) x w b (ix2 r e)
      = softmax (logit (fun k => x (ix2 r k)) (fun e' k => w (ix2 k e')) fun e' => b (ix2 0 e')) e := by
  pointwise [Gen.k0_pay1]
  simp only [fold_max]
  rfl

end Cert.Router

end
-- ==== Proof.Array.lean ====
/-
  What the kernel's result array holds after its 32 grid points: the routing weights of all 32768 tokens.
-/
module

public import proofs.«01_k».proof.Proof.Block
public import proofs.«01_k».proof.Proof.Gen.KernelIdeal.Value
public import Idealize.ShloMosaic.Lib.Pipeline.ValueKit
public import Idealize.ShloMosaic.Lib.StableHlo.Run

@[expose] public section

set_option maxRecDepth 16384

noncomputable section

namespace Cert.Router

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The routing weights of device `c`'s arguments. -/
abbrev kernelWeights (c : Dev nD) : Vec Ideal S32768x64 .f32 :=
  weights (m ((c : Thread nD τ).loc main_arg0)) (m ((c : Thread nD τ).loc main_arg1)) (m ((c : Thread nD τ).loc main_arg2))

/-- Which block each window is on at point `t`: the tokens and the result move by one block a point, the weights and
    the bias stay. -/
theorem index_maps : ∀ t : Fin cfg0.N, win0_0.index t = ![t.val, 0] ∧ win0_1.index t = ![0, 0]
    ∧ win0_2.index t = ![0, 0] ∧ win0_3.index t = ![t.val, 0] :=
  (by decide +kernel : ∀ t : Fin grid0.N, win0_0.index t = ![t.val, 0] ∧ win0_1.index t = ![0, 0]
    ∧ win0_2.index t = ![0, 0] ∧ win0_3.index t = ![t.val, 0])

/-- The weights as the launch finds them are the argument transposed. -/
theorem entry_weights (c : Dev nD) :
    V m c main_v0 = (transpose S4096x64 [1, 0] (m ((c : Thread nD τ).loc main_arg1)) transposes_S64x4096_S4096x64_1_0
      : Vec Ideal S4096x64 .f32) := by
  unfold V hostOps0; after_results

/-- The bias as the launch finds it is the argument as one row. -/
theorem entry_bias (c : Dev nD) :
    V m c main_v1 = (shapeCast S1x64 (m ((c : Thread nD τ).loc main_arg2)) shapeCasts_S64_S1x64
      : Vec Ideal S1x64 .f32) := by
  unfold V hostOps0; after_results; rfl

/-- Point `t`'s token block at row `r`: row `1024 t + r` of the tokens. -/
theorem tokens_apply (c : Dev nD) (t : Fin cfg0.N) (r : Fin 1024) (k : Fin 4096) (R : Fin 32768)
    (hR : R.val = t.val * 1024 + r.val) :
    iblk m c 0 t (ix2 r k) = m ((c : Thread nD τ).loc main_arg0) (ix2 R k) := by
  rw [← V_main_arg0 m c]
  blk_ext [iblk, index_maps t]

/-- Every point's weight block, the whole transposed array, read at `k` and `e`. -/
theorem weights_apply (c : Dev nD) (t : Fin cfg0.N) (k : Fin 4096) (e : Fin 64) :
    iblk m c 1 t (ix2 k e) = m ((c : Thread nD τ).loc main_arg1) (ix2 e k) := by
  trans V m c main_v0 (ix2 k e)
  · blk_ext [iblk, index_maps t]
  · rw [entry_weights]; pointwise []

/-- Every point's bias block read at `e`. -/
theorem bias_apply (c : Dev nD) (t : Fin cfg0.N) (e : Fin 64) :
    iblk m c 2 t (ix2 0 e) = m ((c : Thread nD τ).loc main_arg2) (ix1 e) := by
  trans V m c main_v1 (ix2 0 e)
  · blk_ext [iblk, index_maps t]
  · rw [entry_bias]; pointwise []

/-- Point `t` leaves rows `1024 t` to `1024 t + 1023` of the routing weights in its output block. -/
theorem point_apply (c : Dev nD) (t : Fin cfg0.N) (r : Fin 1024) (e : Fin 64) (R : Fin 32768)
    (hR : R.val = t.val * 1024 + r.val) :
    out0_3 (F := Ideal) (iblk m c 0 t) (iblk m c 1 t) (iblk m c 2 t) (ix2 r e) = kernelWeights m c (ix2 R e) := by
  frame_out
  rw [body_apply]
  unfold kernelWeights weights
  congr 1
  funext e'
  congr 1
  · funext k; exact tokens_apply m c t r k R hR
  · funext e' k; exact weights_apply m c t k e'
  · funext e'; exact bias_apply m c t e'

/-- The blocks of the 32 points tile the result, so the array ends holding the routing weights. -/
theorem result_eq (c : Dev nD) : (dats m 0 c).arrAt 3 cfg0.N = kernelWeights m c := by
  refine (dats m 0 c).arrAt_eq_of_covers 3 _ (by decide +kernel) fun t _ y => ?_
  have ht : t.val < 32 := lt_of_lt_of_eq t.isLt N_0
  blk_simp
  rw [after0_3]
  obtain ⟨r, e, rfl⟩ : ∃ (r : Fin 1024) (e : Fin 64), y = ix2 r e := ⟨y 0, y 1, eq_ix2 y⟩
  refine (point_apply m c t r e ⟨t.val * 1024 + r.val, by omega⟩ rfl).trans ?_
  congr 1
  blk_ext [index_maps t]

/-- The kernel's run: the result is the routing weights of the arguments, which end unchanged. -/
theorem kernel_run : θ_run defs (onTc (τ := τ) (main (F := Ideal))) ⟨m, fun _ => 0, ρ⟩ fun r => ∀ c : Dev nD,
      r.2.mem ((c : Thread nD τ).loc main_v2) = kernelWeights m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_eq m c), (h c).2⟩) (Value.run_blocks m ρ)

end Cert.Router

end
-- ==== Proof.Textbook.lean ====
/-
  What the reference computes: its operations, over whole arrays, read at an index are the softmax of the token's
  logits.
-/
module

public import proofs.«01_k».proof.Proof.Router
public import proofs.«01_k».proof.Proof.Gen.ReferenceIdeal.Run

@[expose] public section

set_option maxRecDepth 16384

noncomputable section

namespace Cert.Router

open Idealize.ShloMosaic Idealize.ShloMosaic.TcCoe Idealize.SL.Sem
open Cert.ReferenceIdeal Cert.ReferenceIdeal.Gen

/-- The reference's logits as an array: one product of the tokens with the transposed weights, plus the bias of every
    row. -/
abbrev hostLogits (X : FVec Ideal S32768x4096 .f32) (W : FVec Ideal S64x4096 .f32) (B : FVec Ideal S64 .f32) :
    FVec Ideal S32768x64 .f32 :=
  addf (Host.dotGeneral dot_S32768x4096_S4096x64_S32768x64_1_0_0_1_n_n none X
      (transpose S4096x64 [1, 0] W transposes_S64x4096_S4096x64_1_0))
    (broadcastInDim S32768x64 ![0, 1] bcast_S1x64_S32768x64_0_1 (broadcastInDim S1x64 ![1] bcast_S64_S1x64_1 B))

/-- The exponentials of an array less the numbers `M` of its rows, which are first raised to at least −∞. -/
abbrev hostExps (L : FVec Ideal S32768x64 .f32) (M : FVec Ideal S32768 .f32) : FVec Ideal S32768x64 .f32 :=
  Host.exp (subf L (broadcastInDim S32768x64 ![0, 1] bcast_S32768x1_S32768x64_0_1
    (broadcastInDim S32768x1 ![0] bcast_S32768_S32768x1_0
      (maximumf (broadcastInDim S32768 ![] bcast_S_S32768 (constant S_ .f32 0xFF800000#32)) M))))

/-- The maxima of an array's rows. -/
abbrev hostMax (L : FVec Ideal S32768x64 .f32) : FVec Ideal S32768 .f32 :=
  Host.reduce FloatOps.maximumf L (constant S_ .f32 0xFF800000#32) reducesTo_S32768x64_S32768_d1 h_S_

/-- The exponentials over the sum of their row. -/
abbrev hostQuotient (E : FVec Ideal S32768x64 .f32) : FVec Ideal S32768x64 .f32 :=
  Host.divf E (broadcastInDim S32768x64 ![0, 1] bcast_S32768x1_S32768x64_0_1
    (broadcastInDim S32768x1 ![0] bcast_S32768_S32768x1_0
      (Host.reduceAdd E (constant S_ .f32 0x00000000#32) reducesTo_S32768x64_S32768_d1 h_S_)))

/-- The reference's logits at token `r` and expert `e`. -/
theorem hostLogits_apply (X : FVec Ideal S32768x4096 .f32) (W : FVec Ideal S64x4096 .f32) (B : FVec Ideal S64 .f32)
    (r : Fin 32768) (e : Fin 64) :
    hostLogits X W B (ix2 r e) = logit (fun k => X (ix2 r k)) (fun e' k => W (ix2 e' k)) (fun e' => B (ix1 e')) e := by
  pointwise [hostLogits]
  rfl

/-- A host maximum along the rows of an array with any number of rows, from −∞, at row `r`: the greatest of the row. -/
theorem hostMax_apply_of {T : Nat} {u : Shape} (L : FVec Ideal ⟨2, ![T, 64]⟩ .f32) (init : FVec Ideal u .f32)
    (hinit : ∀ i, init i = Ideal.ofBits .f32 0xFF800000#32)
    (h : (⟨2, ![T, 64]⟩ : Shape).ReducesTo [1] ⟨1, ![T]⟩) (hu : 0 < u.numel) (r : Fin T) :
    Host.reduce FloatOps.maximumf L init h hu (ix1 r) = Finset.univ.sup fun e : Fin 64 => L (ix2 r e) := by
  rw [Host.reduce_eq_fold, Shape.ReducesTo.fold_fiber_r2_a1, hinit]
  exact fold_max fun e => L (ix2 r e)

/-- The reference's row maximum at token `r`: the greatest of the row. -/
theorem hostMax_apply (L : FVec Ideal S32768x64 .f32) (r : Fin 32768) :
    hostMax L (ix1 r) = Finset.univ.sup fun e : Fin 64 => L (ix2 r e) :=
  hostMax_apply_of L (constant S_ .f32 0xFF800000#32) (fun _ => rfl) reducesTo_S32768x64_S32768_d1 h_S_ r

/-- An exponential at token `r` and expert `e`; the maximum with −∞ changes nothing. -/
theorem hostExps_apply (L : FVec Ideal S32768x64 .f32) (M : FVec Ideal S32768 .f32) (r : Fin 32768) (e : Fin 64) :
    hostExps L M (ix2 r e) = Ideal.exp (L (ix2 r e) - M (ix1 r)) := by
  pointwise [hostExps]
  rw [ofBits_neg_inf, max_eq_right bot_le]

/-- A quotient at token `r` and expert `e`. -/
theorem hostQuotient_apply (E : FVec Ideal S32768x64 .f32) (r : Fin 32768) (e : Fin 64) :
    hostQuotient E (ix2 r e) = Ideal.div (E (ix2 r e)) (∑ e' : Fin 64, E (ix2 r e')) := by
  pointwise [hostQuotient]

/-- The reference's whole result is the routing weights. -/
theorem host_eq (X : FVec Ideal S32768x4096 .f32) (W : FVec Ideal S64x4096 .f32) (B : FVec Ideal S64 .f32) :
    hostQuotient (hostExps (hostLogits X W B) (hostMax (hostLogits X W B))) = weights X W B := by
  funext i
  obtain ⟨r, e, rfl⟩ : ∃ (r : Fin 32768) (e : Fin 64), i = ix2 r e := ⟨i 0, i 1, eq_ix2 i⟩
  rw [hostQuotient_apply]
  simp only [hostExps_apply, hostMax_apply, hostLogits_apply]
  rfl

/-- The reference's run: the result is the routing weights of the arguments, which end unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = weights (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (host_eq _ _ _), (h c).2⟩) (Value.run m ρ)

end Cert.Router

end
-- ==== Proof.lean ====
/-
  The certificate: the kernel and its idealization run without fault, leave their arguments unchanged and every counter
  at zero; the idealization rewrites nothing; over the extended reals the kernel and the reference compute the same
  routing weights (`Router.weights`) of the same arguments.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Array
public import proofs.«01_k».proof.Proof.Textbook
public import Idealize.ShloMosaic.Lib.Quiescent

@[expose] public section

noncomputable section

namespace Cert.Proof

open Idealize.ShloMosaic Idealize.ShloMosaic.TcCoe Idealize.SL.Sem

/-- The kernel as printed terminates without fault, its arguments unchanged, its counters at zero. -/
theorem kernel_frame : Cert.quiescent_Kernel := fun m ρ _ => Cert.Kernel.Gen.frame m ρ

/-- So does the kernel over the extended reals. -/
theorem ideal_frame : Cert.quiescent_KernelIdeal := fun m ρ _ => Cert.KernelIdeal.Gen.frame m ρ

/-- So does the reference, which has no counters. -/
theorem reference_frame : Cert.quiescent_ReferenceIdeal := fun m ρ _ =>
  (θ_run Cert.ReferenceIdeal.defs _ _).mono
    (fun r h => ⟨fun c => (h c).2, sem_eq_zero_of_no_sems (by decide) r.2⟩)
    (Router.reference_run m ρ)

/-- From equal arguments both end with the routing weights of those arguments. -/
theorem same_weights : Cert.algebraic_KernelIdeal_ReferenceIdeal := by
  intro m ρ m' ρ' _ hargs
  refine ⟨fun c => Router.kernelWeights m c, Router.kernel_run m ρ, ?_⟩
  refine (θ_run Cert.ReferenceIdeal.defs _ _).mono (fun _ h c => ⟨(h c).1.trans ?_, (h c).2⟩)
    (Router.reference_run m' ρ')
  rw [(hargs c).1, (hargs c).2.1, (hargs c).2.2]

theorem claim : Cert.Claim :=
  ⟨Cert.Kernel.Gen.facts, Cert.KernelIdeal.Gen.facts, Cert.ReferenceIdeal.Gen.facts,
    kernel_frame, ideal_frame, reference_frame, trivial, same_weights⟩

end Cert.Proof

end
